-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x50x1000 : Shape := ⟨3, ![1024, 50, 1000]⟩
abbrev S1000x128 : Shape := ⟨2, ![1000, 128]⟩
abbrev S50x1000x1024 : Shape := ⟨3, ![50, 1000, 1024]⟩
abbrev S50x1024x128 : Shape := ⟨3, ![50, 1024, 128]⟩
abbrev S2x1000x512 : Shape := ⟨3, ![2, 1000, 512]⟩
abbrev S2x1024x128 : Shape := ⟨3, ![2, 1024, 128]⟩
abbrev S1x1000x512 : Shape := ⟨3, ![1, 1000, 512]⟩
abbrev S1000x512 : Shape := ⟨2, ![1000, 512]⟩
abbrev S512x128 : Shape := ⟨2, ![512, 128]⟩
abbrev S1x512x128 : Shape := ⟨3, ![1, 512, 128]⟩
abbrev S1024x50x128 : Shape := ⟨3, ![1024, 50, 128]⟩

abbrev nBuf : Space → Nat
  | .hbm => 5
  | .vmem => 7
  | .smem => 0
  | _ => 0

abbrev bufTy : (tb : Table) → Fin (tcTables nBuf tb) → BufTy
  | .hbm, ⟨0, _⟩ => ⟨S1024x50x1000, .f32⟩
  | .hbm, ⟨1, _⟩ => ⟨S1000x128, .f32⟩
  | .hbm, ⟨2, _⟩ => ⟨S50x1000x1024, .f32⟩
  | .hbm, ⟨3, _⟩ => ⟨S50x1024x128, .f32⟩
  | .hbm, ⟨4, _⟩ => ⟨S1024x50x128, .f32⟩
  | .local _ .vmem, ⟨0, _⟩ => ⟨S2x1000x512, .f32⟩
  | .local _ .vmem, ⟨1, _⟩ => ⟨S2x1000x512, .f32⟩
  | .local _ .vmem, ⟨2, _⟩ => ⟨S2x1000x512, .f32⟩
  | .local _ .vmem, ⟨3, _⟩ => ⟨S2x1000x512, .f32⟩
  | .local _ .vmem, ⟨4, _⟩ => ⟨S1000x128, .f32⟩
  | .local _ .vmem, ⟨5, _⟩ => ⟨S2x1024x128, .f32⟩
  | .local _ .vmem, ⟨6, _⟩ => ⟨S2x1024x128, .f32⟩
  | _, _ => ⟨S1024x50x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x50x1000 : Shape := ⟨3, ![1024, 50, 1000]⟩
abbrev S1000x128 : Shape := ⟨2, ![1000, 128]⟩
abbrev S1024x50x128 : Shape := ⟨3, ![1024, 50, 128]⟩

abbrev nBuf : Space → Nat
  | .hbm => 3
  | .vmem => 0
  | .smem => 0
  | _ => 0

abbrev bufTy : (tb : Table) → Fin (tcTables nBuf tb) → BufTy
  | .hbm, ⟨0, _⟩ => ⟨S1024x50x1000, .f32⟩
  | .hbm, ⟨1, _⟩ => ⟨S1000x128, .f32⟩
  | .hbm, ⟨2, _⟩ => ⟨S1024x50x128, .f32⟩
  | _, _ => ⟨S1024x50x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Block.lean ====
/-
  What one grid point computes, over the extended reals.

  The body multiplies four slabs: for each of the block's two sequence positions, the two halves of the batch, each
  half from an input window of its own, all against the one embedding table. Here its four stores are read as ONE
  function of the three input blocks.
-/
module

public import proofs.«01_k».proof.Proof.Gen.KernelIdeal.Frame
public import Idealize.ShloMosaic.Lib.Pipeline.Value
public import Idealize.ShloMosaic.Lib.Pointwise

@[expose] public section

noncomputable section

namespace Cert.KernelIdeal.Embed

open Idealize.ShloMosaic Idealize.SL.Sem Cert.KernelIdeal Cert.KernelIdeal.Gen

/-- A product of the body at an index: the loaded slab is class-major (class, batch), so the sum over the classes
    pairs the slab's column with the table's column. The roundings to bf16 are the identity here. -/
theorem slab_apply (w : Vec Ideal S1000x128 .f32) (x : Vec Ideal S1x1000x512 .f32) (j : S1x512x128.Idx) :
    k0_pay3 w x j = ∑ k : Fin 1000, x (ix3 0 k (j 1)) * w (ix2 k (j 2)) := by
  pointwise [k0_pay3, k0_pay2]

/-- Entry (p, b, d) of the block a point leaves: the product's row `b` at position `p`, the row's input taken from the
    first window where `b` is in the lower half of the batch and from the second where it is in the upper half. -/
def blockOut (x0 x1 : Vec Ideal S2x1000x512 .f32) (w : Vec Ideal S1000x128 .f32) : Vec Ideal S2x1024x128 .f32 :=
  fun i => ∑ k : Fin 1000,
    (if h : (i 1 : ℕ) < 512 then x0 (ix3 (i 0) k ⟨i 1, h⟩)
      else x1 (ix3 (i 0) k ⟨(i 1 : ℕ) - 512, by have : (i 1 : ℕ) < 1024 := (i 1).isLt; omega⟩)) * w (ix2 k (i 2))

/-- `blockOut` at an index of the lower half of the batch, its coordinates named: a row of the first window. -/
theorem blockOut_low (x0 x1 : Vec Ideal S2x1000x512 .f32) (w : Vec Ideal S1000x128 .f32) (i : S2x1024x128.Idx)
    (p : Fin 2) (b : Fin 512) (d : Fin 128) (h0 : (i 0 : ℕ) = p) (h1 : (i 1 : ℕ) = b) (h2 : (i 2 : ℕ) = d) :
    blockOut x0 x1 w i = ∑ k : Fin 1000, x0 (ix3 p k b) * w (ix2 k d) := by
  obtain rfl : i = ix3 p ⟨b, b.isLt.trans (by decide)⟩ d := by
    rw [eq_ix3 i]; congr 1 <;> exact Fin.ext (by assumption)
  exact Finset.sum_congr rfl fun k _ => congrArg (· * _) (dif_pos b.isLt)

/-- `blockOut` at an index of the upper half of the batch: a row of the second window. -/
theorem blockOut_high (x0 x1 : Vec Ideal S2x1000x512 .f32) (w : Vec Ideal S1000x128 .f32) (i : S2x1024x128.Idx)
    (p : Fin 2) (b : Fin 512) (d : Fin 128) (h0 : (i 0 : ℕ) = p) (h1 : (i 1 : ℕ) = 512 + b) (h2 : (i 2 : ℕ) = d) :
    blockOut x0 x1 w i = ∑ k : Fin 1000, x1 (ix3 p k b) * w (ix2 k d) := by
  obtain rfl : i = ix3 p ⟨512 + b, Nat.add_lt_add_left b.isLt 512⟩ d := by
    rw [eq_ix3 i]; congr 1 <;> exact Fin.ext (by assumption)
  refine Finset.sum_congr rfl fun k _ => congrArg (· * _) ((dif_neg (by simp)).trans ?_)
  exact congrArg x1 (congrArg (ix3 p k) (Fin.ext (Nat.add_sub_cancel_left ..)))

/-- The four stores, one for each sequence position and half of the batch, leave exactly `blockOut`: each stored slab is
    the part of `blockOut` that its rectangle names, and the four rectangles cover the block. -/
theorem out_eq (x0 x1 : Vec Ideal S2x1000x512 .f32) (w : Vec Ideal S1000x128 .f32) :
    out0_3 x0 x1 w = blockOut x0 x1 w := by
  funext y
  unfold out0_3
  refine View.canon_apply_of_pieces (blockOut x0 x1 w) _ ?_ y (cover0_3 _ _ _ _ y)
  intro p hp x
  simp only [List.mem_cons, List.not_mem_nil, or_false] at hp
  rcases hp with rfl | rfl | rfl | rfl
  all_goals
    refine (slab_apply _ _ _).trans ?_
    have u : (x 0 : ℕ) = 0 := Nat.lt_one_iff.mp (x 0).isLt
    pointwise
    symm
  · exact blockOut_high x0 x1 w _ 1 (x 1) (x 2) (by rw [Rect.emb_apply]; simp [u]) (by rw [Rect.emb_apply]; simp) (by rw [Rect.emb_apply]; simp)
  · exact blockOut_low x0 x1 w _ 1 (x 1) (x 2) (by rw [Rect.emb_apply]; simp [u]) (by rw [Rect.emb_apply]; simp) (by rw [Rect.emb_apply]; simp)
  · exact blockOut_high x0 x1 w _ 0 (x 1) (x 2) (by rw [Rect.emb_apply]; simp [u]) (by rw [Rect.emb_apply]; simp) (by rw [Rect.emb_apply]; simp)
  · exact blockOut_low x0 x1 w _ 0 (x 1) (x 2) (by rw [Rect.emb_apply]; simp [u]) (by rw [Rect.emb_apply]; simp) (by rw [Rect.emb_apply]; simp)

end Cert.KernelIdeal.Embed

end
-- ==== Proof.Array.lean ====
/-
  What the kernel's result holds, over the extended reals.

  Point `t` of the grid takes the sequence positions 2t and 2t + 1 of the transposed input, in two windows on the one
  array (the two halves of the batch), and writes the same two positions of the position-major product. Every point's
  block is a part of one array, `product`, and the 25 blocks cover it; the transpose after the kernel then gives
  the batch-major result.
-/
module

public import proofs.«01_k».proof.Proof.Block
public import Idealize.ShloMosaic.Lib.StableHlo.Run

@[expose] public section

noncomputable section

namespace Cert.KernelIdeal.Embed

open Idealize.ShloMosaic Idealize.ShloMosaic.TcCoe Idealize.SL.Sem Cert.KernelIdeal Cert.KernelIdeal.Gen

variable (m : (ℓ : Loc nD τ sig) → Buf (Elt Ideal) ℓ)

/-- The input, [batch, position, class], as launched. -/
abbrev input (c : Dev nD) : Vec Ideal S1024x50x1000 .f32 := m ((c : Thread nD τ).loc main_arg0)
/-- The embedding table, [class, feature], as launched. -/
abbrev table (c : Dev nD) : Vec Ideal S1000x128 .f32 := m ((c : Thread nD τ).loc main_arg1)

/-- The position-major product: entry (s, b, d) is the sum over the classes of input (b, s, ·) times table (·, d). -/
def product (x : Vec Ideal S1024x50x1000 .f32) (w : Vec Ideal S1000x128 .f32) : Vec Ideal S50x1024x128 .f32 :=
  fun i => ∑ k : Fin 1000, x (ix3 (i 1) (i 0) k) * w (ix2 k (i 2))

/-- The array that both input windows read is the input, transposed to [position, class, batch]. -/
theorem entry_apply (c : Dev nD) (s : Fin 50) (k : Fin 1000) (b : Fin 1024) :
    (V m c main_v0 : Vec Ideal S50x1000x1024 .f32) (ix3 s k b) = input m c (ix3 b s k) := by
  show (transpose S50x1000x1024 [1, 2, 0] (input m c) transposes_S1024x50x1000_S50x1000x1024_1_2_0) (ix3 s k b) = _
  pointwise

/-- Where the windows' blocks lie: point `t` is at position block `t` in the two input windows, the second at the upper
    half of the batch; the table is whole. -/
theorem index_eq : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 1)
    ∧ (win0_2.index t 0 = 0 ∧ win0_2.index t 1 = 0)
    ∧ (win0_3.index t 0 = t.val ∧ win0_3.index t 1 = 0 ∧ win0_3.index t 2 = 0) := by
  decide +kernel

/-- A point is one of 25. -/
theorem point_lt (t : Fin cfg0.N) : t.val < 25 := t.isLt.trans_eq N_0

/-- Sequence position `p` of point `t`. -/
def pos (t : Fin cfg0.N) (p : Fin 2) : Fin 50 := ⟨t.val * 2 + p, by have := point_lt t; omega⟩

/-- The first window's block at point `t`: positions 2t, 2t + 1 of the lower half of the batch. -/
theorem iblk0_apply (c : Dev nD) (t : Fin cfg0.N) (p : Fin 2) (k : Fin 1000) (b : Fin 512) :
    (iblk m c 0 t : Vec Ideal S2x1000x512 .f32) (ix3 p k b) = input m c (ix3 ⟨b, b.isLt.trans (by decide)⟩ (pos t p) k) := by
  refine Eq.trans ?_ (entry_apply m c (pos t p) k ⟨b, b.isLt.trans (by decide)⟩)
  show (V m c main_v0 : Vec Ideal S50x1000x1024 .f32) ((win0_0.rect t).emb (ix3 p k b)) = _
  obtain ⟨⟨h0, h1, h2⟩, -⟩ := index_eq t
  refine congrArg _ (funext fun a => Fin.ext ?_)
  match a with
  | ⟨0, _⟩ => exact (win0_0.rect_emb_val t (ix3 p k b) 0).trans (by rw [h0]; rfl)
  | ⟨1, _⟩ => exact (win0_0.rect_emb_val t (ix3 p k b) 1).trans (by rw [h1]; exact (congrArg (· + _) (Nat.zero_mul _)).trans (Nat.zero_add _))
  | ⟨2, _⟩ => exact (win0_0.rect_emb_val t (ix3 p k b) 2).trans (by rw [h2]; exact (congrArg (· + _) (Nat.zero_mul _)).trans (Nat.zero_add _))

/-- The second window's block at point `t`: the same positions of the upper half of the batch. -/
theorem iblk1_apply (c : Dev nD) (t : Fin cfg0.N) (p : Fin 2) (k : Fin 1000) (b : Fin 512) :
    (iblk m c 1 t : Vec Ideal S2x1000x512 .f32) (ix3 p k b) = input m c (ix3 ⟨512 + b, Nat.add_lt_add_left b.isLt 512⟩ (pos t p) k) := by
  refine Eq.trans ?_ (entry_apply m c (pos t p) k ⟨512 + b, Nat.add_lt_add_left b.isLt 512⟩)
  show (V m c main_v0 : Vec Ideal S50x1000x1024 .f32) ((win0_1.rect t).emb (ix3 p k b)) = _
  obtain ⟨-, ⟨h0, h1, h2⟩, -⟩ := index_eq t
  refine congrArg _ (funext fun a => Fin.ext ?_)
  match a with
  | ⟨0, _⟩ => exact (win0_1.rect_emb_val t (ix3 p k b) 0).trans (by rw [h0]; rfl)
  | ⟨1, _⟩ => exact (win0_1.rect_emb_val t (ix3 p k b) 1).trans (by rw [h1]; exact (congrArg (· + _) (Nat.zero_mul _)).trans (Nat.zero_add _))
  | ⟨2, _⟩ => exact (win0_1.rect_emb_val t (ix3 p k b) 2).trans (by rw [h2]; exact congrArg (· + _) (Nat.one_mul _))

/-- The third window's block is the whole table at every point. -/
theorem iblk2_apply (c : Dev nD) (t : Fin cfg0.N) (k : Fin 1000) (d : Fin 128) :
    (iblk m c 2 t : Vec Ideal S1000x128 .f32) (ix2 k d) = table m c (ix2 k d) := by
  refine Eq.trans ?_ (congrFun (V_main_arg1 m c) (ix2 k d))
  show (V m c main_arg1 : Vec Ideal S1000x128 .f32) ((win0_2.rect t).emb (ix2 k d)) = _
  obtain ⟨-, -, ⟨h0, h1⟩, -⟩ := index_eq t
  refine congrArg _ (funext fun a => Fin.ext ?_)
  match a with
  | ⟨0, _⟩ => exact win0_2.rect_emb_val_of_index_zero t 0 h0 (ix2 k d)
  | ⟨1, _⟩ => exact win0_2.rect_emb_val_of_index_zero t 1 h1 (ix2 k d)

/-- What point `t` leaves, entry by entry: the product at the block's positions. -/
theorem block_apply (c : Dev nD) (t : Fin cfg0.N) (p : Fin 2) (b : Fin 1024) (d : Fin 128) :
    blockOut (iblk m c 0 t) (iblk m c 1 t) (iblk m c 2 t) (ix3 p b d)
      = product (input m c) (table m c) (ix3 (pos t p) b d) := by
  by_cases hb : (b : ℕ) < 512
  · refine (blockOut_low _ _ _ _ p ⟨b, hb⟩ d rfl rfl rfl).trans (Finset.sum_congr rfl fun k _ => ?_)
    exact congrArg₂ _ (iblk0_apply m c t p k ⟨b, hb⟩) (iblk2_apply m c t k d)
  · refine (blockOut_high _ _ _ _ p ⟨b - 512, by omega⟩ d rfl (show (b : ℕ) = 512 + (b - 512) by omega) rfl).trans
      (Finset.sum_congr rfl fun k _ => ?_)
    refine congrArg₂ _ ((iblk1_apply m c t p k ⟨b - 512, by omega⟩).trans ?_) (iblk2_apply m c t k d)
    exact congrArg (fun b' => input m c (ix3 b' (pos t p) k)) (Fin.ext (show 512 + ((b : ℕ) - 512) = b by omega))

/-- What point `t` writes back is block `t` of the product. -/
theorem flushed_eq (c : Dev nD) (t : Fin cfg0.N) :
    (dats m 0 c).flushed 3 t = (win0_3.blk t).view.read (Elt Ideal) (product (input m c) (table m c)) := by
  show (cfg0.win 3).cut (grid0.coords t) ((dats m 0 c).after 3 t) = _
  rw [after0_3, out_eq]
  funext (y : S2x1024x128.Idx)
  rw [eq_ix3 y]
  refine (block_apply m c t (y 0) (y 1) (y 2)).trans ?_
  show product (input m c) (table m c) _ = product (input m c) (table m c) ((win0_3.rect t).emb (ix3 (y 0) (y 1) (y 2)))
  obtain ⟨-, -, -, h0, h1, h2⟩ := index_eq t
  refine congrArg _ (funext fun a => Fin.ext (Eq.symm ?_))
  match a with
  | ⟨0, _⟩ => exact (win0_3.rect_emb_val t (ix3 (y 0) (y 1) (y 2)) 0).trans (by rw [h0]; rfl)
  | ⟨1, _⟩ => exact win0_3.rect_emb_val_of_index_zero t 1 h1 (ix3 (y 0) (y 1) (y 2))
  | ⟨2, _⟩ => exact win0_3.rect_emb_val_of_index_zero t 2 h2 (ix3 (y 0) (y 1) (y 2))

/-- Every entry of the product is in some point's block: position `s` in that of point s / 2. -/
theorem cover (i : S50x1024x128.Idx) :
    ∃ t : Fin cfg0.N, (cfg0.win 3).flush t = true ∧ i ∈ ((cfg0.win 3).blk t).view.set := by
  have h0 : (i 0 : ℕ) < 50 := (i 0).isLt
  have hN : cfg0.N = 25 := N_0
  let t : Fin cfg0.N := ⟨(i 0 : ℕ) / 2, by omega⟩
  refine ⟨t, flush0_3 t, ?_⟩
  let y : S2x1024x128.Idx := ix3 ⟨(i 0 : ℕ) % 2, Nat.mod_lt _ (by decide)⟩ (i 1) (i 2)
  have e : (win0_3.rect t).emb y = i := by
    obtain ⟨-, -, -, e0, e1, e2⟩ := index_eq t
    refine funext fun a => Fin.ext ?_
    match a with
    | ⟨0, _⟩ => exact (win0_3.rect_emb_val t y 0).trans (by rw [e0]; exact Nat.div_add_mod' _ 2)
    | ⟨1, _⟩ => exact win0_3.rect_emb_val_of_index_zero t 1 e1 y
    | ⟨2, _⟩ => exact win0_3.rect_emb_val_of_index_zero t 2 e2 y
  have := ((cfg0.win 3).blk t).view.emb_mem_set y
  exact (congrArg (· ∈ ((cfg0.win 3).blk t).view.set) e).mp this

/-- So the array that the kernel writes ends holding the product. -/
theorem final (c : Dev nD) : (dats m 0 c).arrAt 3 cfg0.N = product (input m c) (table m c) :=
  (dats m 0 c).arrAt_eq_of_cover 3 (product (input m c) (table m c)) (fun t _ => flushed_eq m c t) cover

/-- The result, after the host's transpose of that array to [batch, position, feature]. -/
theorem result (c : Dev nD) :
    Pipeline.afterTail₀ cfgs (dats m) 0 (V0 m) [hostOps1] c main_v2
      = (transpose S1024x50x128 [1, 0, 2] (product (input m c) (table m c)) transposes_S50x1024x128_S1024x50x128_1_0_2
          : Vec Ideal S1024x50x128 .f32) := by
  unfold Pipeline.afterTail₀
  have h : Pipeline.withArrays (cfgs 0).spec c (V0 m c) (fun w => (dats m 0 c).arrAt w (cfgs 0).N) (Proc.devRef .tc main_v1)
      = product (input m c) (table m c) :=
    (Pipeline.withArrays_arr_shared (cfgs 0).spec c (V0 m c) (fun w => (dats m 0 c).arrAt w (cfgs 0).N)
      (Pipeline.Dat.arrAt_sharedIn (dats m 0 c) sharedIn0 (V0 m c) (A_eq m c) (cfgs 0).N) 3).trans (final m c)
  exact congrArg (transpose S1024x50x128 [1, 0, 2] · transposes_S50x1024x128_S1024x50x128_1_0_2) h

end Cert.KernelIdeal.Embed

end
-- ==== Proof.Equation.lean ====
/-
  The kernel's result and the reference's are one function, over the extended reals.
-/
module

public import proofs.«01_k».proof.Defs
public import proofs.«01_k».proof.Proof.Array
public import proofs.«01_k».proof.Proof.Gen.ReferenceIdeal
public import Idealize.ShloMosaic.Lib.Claim
public import Idealize.ShloMosaic.Lib.Quiescent

@[expose] public section

noncomputable section

namespace Cert.Proof

open Idealize.ShloMosaic Idealize.ShloMosaic.TcCoe Idealize.SL.Sem Cert.KernelIdeal.Embed

/-- The host's product of the input by the table is the kernel's position-major product with its first two axes
    exchanged: at (b, s, d) both are the sum over the classes of input (b, s, ·) times table (·, d). -/
theorem matmul_eq (x : Vec Ideal Cert.KernelIdeal.S1024x50x1000 .f32) (w : Vec Ideal Cert.KernelIdeal.S1000x128 .f32) :
    (Host.dotGeneral (F := Ideal) (φ₁ := .f32) (φ₂ := .f32) Cert.ReferenceIdeal.dot_S1024x50x1000_S1000x128_S1024x50x128_2_0_01_1_n_n none x w
        : Vec Ideal Cert.ReferenceIdeal.S1024x50x128 .f32)
      = transpose Cert.KernelIdeal.S1024x50x128 [1, 0, 2] (product x w)
          Cert.KernelIdeal.Gen.transposes_S50x1024x128_S1024x50x128_1_0_2 := by
  funext i
  pointwise [product]

/-- The reference leaves its arguments unchanged, and it has no semaphores. -/
theorem reference_frame : Cert.quiescent_ReferenceIdeal := fun m ρ _ =>
  θ_run_and (by hlo_run)
    ((θ_run Cert.ReferenceIdeal.defs _ _).mono (fun r _ => sem_eq_zero_of_no_sems (by decide) r.2)
      (show θ_run Cert.ReferenceIdeal.defs _ ⟨m, fun _ => 0, ρ⟩ (fun _ => ∀ _ : Dev Cert.ReferenceIdeal.nD, True) by hlo_run))

/-- Kernel and reference compute the same function over the extended reals. -/
theorem algebraic : Cert.algebraic_KernelIdeal_ReferenceIdeal := by
  pair_intro
  · run_from (Cert.KernelIdeal.Gen.run_main m g)
    exact Cert.KernelIdeal.Gen.W_main_arg0 m (Cert.KernelIdeal.Gen.dats m) c
  · hlo_run
    exact (matmul_eq _ _).trans (result m c).symm

end Cert.Proof

end
-- ==== Proof.lean ====
/-
  The certificate of the batch-minor embedding kernel: the frames of the kernel, of its ideal program and of the
  reference, and that kernel and reference compute the same function over the extended reals.

  Proof/Block.lean     what one grid point computes
  Proof/Array.lean     what the kernel's array holds, and the result after the host's transpose
  Proof/Equation.lean  the reference's product, and the equation
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation

@[expose] public section

noncomputable section

namespace Cert.Proof

/-- The five claims: the three frames, that the ideal program is the kernel, and the equality with the reference. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    reference_frame, trivial, algebraic⟩

end Cert.Proof

end
